-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x48x48x48x64 : Shape := ⟨5, ![8, 48, 48, 48, 64]⟩
abbrev S_ : Shape := ⟨0, ![]⟩
abbrev S8x64x110592 : Shape := ⟨3, ![8, 64, 110592]⟩
abbrev S1 : Shape := ⟨1, ![1]⟩
abbrev S1x64x27648 : Shape := ⟨3, ![1, 64, 27648]⟩
abbrev S4x64x27648 : Shape := ⟨3, ![4, 64, 27648]⟩
abbrev S64x64 : Shape := ⟨2, ![64, 64]⟩
abbrev S64x27648 : Shape := ⟨2, ![64, 27648]⟩

abbrev nBuf : Space → Nat
  | .hbm => 6
  | .vmem => 7
  | .smem => 1
  | _ => 0

abbrev bufTy : (tb : Table) → Fin (tcTables nBuf tb) → BufTy
  | .hbm, ⟨0, _⟩ => ⟨S8x48x48x48x64, .f32⟩
  | .hbm, ⟨1, _⟩ => ⟨S_, .f32⟩
  | .hbm, ⟨2, _⟩ => ⟨S8x64x110592, .f32⟩
  | .hbm, ⟨3, _⟩ => ⟨S1, .f32⟩
  | .hbm, ⟨4, _⟩ => ⟨S8x64x110592, .f32⟩
  | .hbm, ⟨5, _⟩ => ⟨S8x48x48x48x64, .f32⟩
  | .local _ .vmem, ⟨0, _⟩ => ⟨S1x64x27648, .f32⟩
  | .local _ .vmem, ⟨1, _⟩ => ⟨S1x64x27648, .f32⟩
  | .local _ .vmem, ⟨2, _⟩ => ⟨S1x64x27648, .f32⟩
  | .local _ .vmem, ⟨3, _⟩ => ⟨S1x64x27648, .f32⟩
  | .local _ .vmem, ⟨4, _⟩ => ⟨S4x64x27648, .f32⟩
  | .local _ .vmem, ⟨5, _⟩ => ⟨S64x64, .f32⟩
  | .local _ .vmem, ⟨6, _⟩ => ⟨S64x64, .f32⟩
  | .local _ .smem, ⟨0, _⟩ => ⟨S1, .f32⟩
  | _, _ => ⟨S8x48x48x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 4], ![false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def k0_cond1 (i : grid0.Coords) : BitVec 1 :=
  let arg0 : BitVec 32 := BitVec.ofNat 32 (i 0).val
  let c8_i32 : BitVec 32 := 8#32
  let v12 : BitVec 1 := Scalar.cmpi .slt arg0 c8_i32
  let v13 : BitVec 32 := Scalar.extui v12
  let c0_i32 : BitVec 32 := 0#32
  let v14 : BitVec 1 := Scalar.cmpi .ne v13 c0_i32
  v14

def k0_off2 (i : grid0.Coords) : Fin 3 → Nat :=
  let arg1 : BitVec 32 := BitVec.ofNat 32 (i 1).val
  let v29 : Index := Scalar.indexCast arg1
  let c0_18 : Index := 0#32
  let c0_19 : Index := 0#32
  ![v29.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c3_i32 : BitVec 32 := 3#32
  let v2 : BitVec 32 := Scalar.select v1 arg1 c3_i32
  let c0_i32 : BitVec 32 := 0#32
  let c0_i32_0 : BitVec 32 := 0#32
  ![v0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 1 := Scalar.cmpi .sge arg0 c1_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x27648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x27648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x48x48x48x64 : Shape := ⟨5, ![8, 48, 48, 48, 64]⟩
abbrev S_ : Shape := ⟨0, ![]⟩
abbrev S8x64x110592 : Shape := ⟨3, ![8, 64, 110592]⟩
abbrev S8x64x64 : Shape := ⟨3, ![8, 64, 64]⟩

abbrev nBuf : Space → Nat
  | .hbm => 18
  | .vmem => 0
  | .smem => 0
  | _ => 0

abbrev bufTy : (tb : Table) → Fin (tcTables nBuf tb) → BufTy
  | .hbm, ⟨0, _⟩ => ⟨S8x48x48x48x64, .f32⟩
  | .hbm, ⟨1, _⟩ => ⟨S_, .f32⟩
  | .hbm, ⟨2, _⟩ => ⟨S8x64x110592, .f32⟩
  | .hbm, ⟨3, _⟩ => ⟨S8x64x64, .f32⟩
  | .hbm, ⟨4, _⟩ => ⟨S8x64x64, .f32⟩
  | .hbm, ⟨5, _⟩ => ⟨S8x64x64, .f32⟩
  | .hbm, ⟨6, _⟩ => ⟨S8x64x64, .f32⟩
  | .hbm, ⟨7, _⟩ => ⟨S_, .f32⟩
  | .hbm, ⟨8, _⟩ => ⟨S8x64x64, .f32⟩
  | .hbm, ⟨9, _⟩ => ⟨S8x64x64, .f32⟩
  | .hbm, ⟨10, _⟩ => ⟨S_, .f32⟩
  | .hbm, ⟨11, _⟩ => ⟨S8x64x64, .f32⟩
  | .hbm, ⟨12, _⟩ => ⟨S8x64x64, .f32⟩
  | .hbm, ⟨13, _⟩ => ⟨S8x64x110592, .f32⟩
  | .hbm, ⟨14, _⟩ => ⟨S8x48x48x48x64, .f32⟩
  | .hbm, ⟨15, _⟩ => ⟨S8x48x48x48x64, .f32⟩
  | .hbm, ⟨16, _⟩ => ⟨S8x48x48x48x64, .f32⟩
  | .hbm, ⟨17, _⟩ => ⟨S8x48x48x48x64, .f32⟩
  | _, _ => ⟨S8x48x48x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Launch1.lean ====
module

public import proofs.«01_k».proof.Proof.Gen.KernelIdeal.Frame

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen

variable {F : FTy → Type} [FloatOps F]

local notation "𝕄" => MT nD τ sig Unit (Elt F) ℕ (UR sig nD τ) ℕ

/-- The relational proof data of the one pipeline of this program on a core. -/
abbrev PData (F : FTy → Type) [FloatOps F] (c : Dev nD) := RDat τ (Elt F) Unit ℕ (UR sig nD τ) ℕ cfg0 c

/-- What every buffer holds after the host line that follows the region, the region having left the arrays at `A`. -/
abbrev tailVal (m : (ℓ : Loc nD τ sig) → Buf (Elt F) ℓ) (c : Dev nD)
    (A : (w : Fin cfg0.W) → Buf (Elt F) ((spec0 w).arr.view.loc (c.tc : Thread nD τ))) (b : Ref sig .tc) : Buf (Elt F) ((c.tc : Thread nD τ).loc b) :=
  StableHlo.after (List.flatten [hostOps1]) (withArrays spec0 c (V0 m c) A) (Proc.devRef .tc b)

/-- The arrays held at contents the data allow after the last point are arrays held at named such contents. -/
theorem arrays_open (c : Dev nD) (rd : PData F c) :
    (rd.arraysAt cfg0.N : sProp 𝕄) ⊢ iprop(∃ A, ⌜∀ w, rd.ArrAt w cfg0.N (A w)⌝ ∗ rd.arrays A) := by
  unfold RDat.arraysAt RDat.arrays
  refine (bigSep_exists_pi Finset.univ (fun w B => iprop(⌜rd.ArrAt w cfg0.N B⌝
    ∗ (cfg0.win w).arr.view.loc (c.tc : Thread nD τ) ↦[(cfg0.win w).arr.view.set]{rd.share w} B))).trans ?_
  iintro ⟨%A, H⟩
  ihave H' := (bigSep_pure_sep Finset.univ (fun w => rd.ArrAt w cfg0.N (A w))
    (fun w => (cfg0.win w).arr.view.loc (c.tc : Thread nD τ) ↦[(cfg0.win w).arr.view.set]{rd.share w} A w)) $$ H
  icases H' with ⟨%hA, H⟩
  iexists A
  isplitr
  · ipureintro; exact fun w => hA w (Finset.mem_univ w)
  · iexact H

/-- And back: arrays held at contents the data allow are arrays held at some such contents. -/
theorem arrays_close (c : Dev nD) (rd : PData F c) (A) (hA : ∀ w, rd.ArrAt w cfg0.N (A w)) :
    (rd.arrays A : sProp 𝕄) ⊢ rd.arraysAt cfg0.N := by
  unfold RDat.arraysAt RDat.arrays
  refine bigSep_mono fun w _ => ?_
  show ((cfg0.win w).arr.view.loc (c.tc : Thread nD τ) ↦[(cfg0.win w).arr.view.set]{rd.share w} A w : sProp 𝕄)
    ⊢ iprop(∃ B, ⌜rd.ArrAt w cfg0.N B⌝ ∗ (cfg0.win w).arr.view.loc (c.tc : Thread nD τ) ↦[(cfg0.win w).arr.view.set]{rd.share w} B)
  iintro H
  iexists (A w)
  isplitr
  · ipureintro; exact hA w
  · iexact H

set_option backward.isDefEq.respectTransparency.types false in
set_option maxHeartbeats 1600000 in
/-- The whole run, for proof data that constrain what each array may hold at the end: some contents `A` the data allow are
    what the arrays end with, every buffer beside the arrays ends as the host line after the region leaves it over `A`, and
    every counter ends at zero. -/
theorem run_values (m : (ℓ : Loc nD τ sig) → Buf (Elt F) ℓ) (ρ : Dev nD → PrngReg) (rd : (c : Dev nD) → PData F c)
    (hbody : ∀ c, (rd c).BodyObligation defs₀ Variants.none () Set.univ)
    (hq : ∀ c w, (rd c).q w = fullShare) (howed : ∀ c t, (rd c).owed t = 0)
    (hA : ∀ c w, (rd c).A w = V m c (arrRef spec0 w))
    (hin : ∀ c, ΦA spec0 c ⊢ (rd c).Φ 0) (hout : ∀ c, (rd c).Φ (Fin.last cfg0.N) ⊢ ΦA spec0 c) :
    θ_run defs (onTc (τ := τ) (main (F := F))) (s₀ m ρ) (fun r =>
      (∀ c : Dev nD, ∃ A : (w : Fin cfg0.W) → Buf (Elt F) ((spec0 w).arr.view.loc (c.tc : Thread nD τ)),
        (∀ w, (rd c).ArrAt w cfg0.N (A w)) ∧ ∀ b ∈ restRefs sig spec0, r.2.mem ((c.tc : Thread nD τ).loc b) = tailVal m c A b)
      ∧ r.2.sem = fun _ => 0) := by
  classical
  have kit : PLaunchFacts₀ (nD := nD) (τ := τ) (fun q => (cfgs q).toPCfg (Val := Elt F)) 0 := launch0.toP.to₀
  have hsh : ∀ c w, (rd c).share w = fullShare := fun c w => by
    unfold RDat.share; rw [hq]; split <;> rfl
  have hq' : ∀ c w, (spec0 w).isOut = false → (rd c).q w = shareOf spec0 w := fun c w hw =>
    (rd c).q_eq_shareOf_of_share_full launch0.win.arr_inj (hsh c) w hw
  have hB : ∀ c A, (∀ w, (rd c).ArrAt w cfg0.N (A w)) →
      (rd c).arrays A = arrBufs spec0 c (fun b => withArrays spec0 c (V0 m c) A (Proc.devRef .tc b)) := fun c A h =>
    ((rd c).arrBufs_eq_arrays kit.sharedIn kit.arr_whole (hq' c) _ A fun w =>
      (withArrays_arr_shared spec0 c (V0 m c) A ((rd c).ArrAt_sharedIn kit.sharedIn (V0 m c) (hA c) cfg0.N A h) w).symm).symm
  refine RDat.θ_run_region_pf_tail_quiescent (fun q => (cfgs q).toPCfg (Val := Elt F)) (fun q => (cfgs q).toPCfg_adm)
    (RDat.familyOf (fun q => (cfgs q).toPCfg (Val := Elt F)) (fun q => (cfgs q).toPCfg_adm) 0 rd) ()
    (kit.cellOf_inj (fun q => (cfgs q).toPCfg_adm)) 0 kit.win (OwnSemFacts.none spec0) kit.pre emb₁ defs₀ Variants.none m ρ main
    (fun _ => chain ([hostOps1].map StableHlo.seq)) (fun c => by rw [RDat.familyOf_self]; exact hbody c)
    kit.block_pos kit.arr_whole kit.stage_whole (fun c t => by rw [RDat.familyOf_self]; exact howed c t)
    (G := fun _ => iprop(emp))
    (u₀ := initOf (cells (pin (fun q => (cfgs q).toPCfg (Val := Elt F)) (fun q => (cfgs q).toPCfg_adm)) (kit.cellOf_inj (fun q => (cfgs q).toPCfg_adm)))
      (launchToks (pin (fun q => (cfgs q).toPCfg (Val := Elt F)) (fun q => (cfgs q).toPCfg_adm)) (kit.cellOf_inj (fun q => (cfgs q).toPCfg_adm))))
    ?hu₀ (V := V m) (hmain := hmain m Variants.none)
    (hsplit := fun c => by
      rw [RDat.familyOf_self]
      exact (rd c).arrays_split_shared kit.sharedIn kit.arr_whole (hq' c) (V m c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜∀ w, (rd c).ArrAt w cfg0.N (A w)⌝
      ∗ unscopedRestP (Ix := Unit) (Name := ℕ) (U := UR sig nD τ) (Lvl := ℕ) Prefetch.none spec0 c (tailVal m c A)))
    ?hX ?hin ?hout ?htail
    (QY := fun c s => ∃ A, (∀ w, (rd c).ArrAt w cfg0.N (A w)) ∧ ∀ b ∈ restRefsP sig Prefetch.none spec0, s.mem ((c.tc : Thread nD τ).loc b) = tailVal m c A b)
    ?hY ?hQ
  case hu₀ =>
    iintro Hu; imodintro
    isplitl [Hu]
    · iapply (show (ownU _ : sProp 𝕄) ⊢ BI.own (emb₁ (initOf (cells (pin (fun q => (cfgs q).toPCfg (Val := Elt F)) (fun q => (cfgs q).toPCfg_adm)) (kit.cellOf_inj (fun q => (cfgs q).toPCfg_adm)))
        (launchToks (pin (fun q => (cfgs q).toPCfg (Val := Elt F)) (fun q => (cfgs q).toPCfg_adm)) (kit.cellOf_inj (fun q => (cfgs q).toPCfg_adm))))) from .rfl)
      iexact Hu
    · iapply (show (BI.emp : sProp 𝕄) ⊢ bigSep Finset.univ (fun _ : Dev nD => (BI.emp : sProp 𝕄)) from by rw [BI.bigSep_emp_const])
      iempintro
  case hX =>
    intro c
    iintro ⟨HU, -, -, Hp, -⟩; imodintro
    isplitl [Hp]
    · iexists _; iexact Hp
    · iexact HU
  case hin =>
    intro c
    rw [RDat.familyOf_self]
    exact (show _ ⊢ ΦA spec0 c by
      unfold ΦA
      iintro ⟨Hp, -, Hr⟩
      isplitl [Hr] <;> iassumption).trans (hin c)
  case hout =>
    intro c
    rw [RDat.familyOf_self]
    refine (hout c).trans ?_
    rw [ownSems0_none]; unfold ΦA
    iintro ⟨Hr, Hp⟩
    isplitl [Hp]; · iexact Hp
    isplitr; · iempintro
    iexact Hr
  case htail =>
    intro c Q'
    rw [RDat.familyOf_self]
    iintro ⟨Hk, Hb, Ha, HZ⟩
    ihave Ha' := (arrays_open c (rd c)) $$ Ha
    icases Ha' with ⟨%A, %hA', Ha⟩
    iapply (tail_seqs_bufs_b (fun q => (cfgs q).toPCfg (Val := Elt F)) defs₀ Variants.none Prefetch.none spec0 c (V0 m c) A [hostOps1] sfx_sub sfx_fresh sfx_keeps Q')
    isplitl [Hk]
    · iintro ⟨Hb, Ha, Hu⟩
      iapply Hk
      isplitl [Hb]; · iexact Hb
      isplitl [Ha]
      · iapply (arrays_close c (rd c) A hA'); iapply (Entails.of_eq (hB c A hA').symm); iexact Ha
      · iexists A
        isplitr
        · ipureintro; exact hA'
        · iexact Hu
    · isplitl [Hb]; · iexact Hb
      isplitl [Ha]
      · iapply (Entails.of_eq (hB c A hA')); iexact Ha
      · iexact HZ
  case hY =>
    intro c s'
    iintro ⟨-, HZ, HSI⟩
    icases HZ with ⟨%A, %hA', HZ⟩
    unfold unscopedRestP
    ihave H := (pointsTo_read_all (restRefsP sig Prefetch.none spec0) (fun b => (c.tc : Thread nD τ).loc b) (tailVal m c A) s') $$ [HZ HSI]
    · isplitl [HZ] <;> iassumption
    icases H with ⟨%h, HSI⟩
    imodintro
    isplitr
    · ipureintro; exact ⟨A, hA', h⟩
    · iexact HSI
  case hQ =>
    intro s h hz
    refine ⟨fun c => ?_, hz⟩
    obtain ⟨A, hA', hb⟩ := (h c).2.2
    exact ⟨A, hA', fun b hb' => hb b (Finset.mem_sdiff.mpr ⟨hb', fun hm => by
      obtain ⟨k, -, -⟩ := Finset.mem_image.mp hm; exact k.elim0⟩)⟩

end Cert.KernelIdeal.Hand
end
-- ==== Proof.Body.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The branch on the batch: taken while a batch is left to read. -/
abbrev condB (i : grid0.Coords) : Prop := k0_cond1 i = 1#1
/-- The branch on the first block of a batch. -/
abbrev condFst (i : grid0.Coords) : Prop := (Scalar.cmpi .ne (Scalar.extui (Scalar.cmpi .eq (BitVec.ofNat 32 (i 1).val) 0#32)) 0#32) = 1#1
/-- The branch on the last block of a batch. -/
abbrev condLst (i : grid0.Coords) : Prop := (Scalar.cmpi .ne (Scalar.extui (Scalar.cmpi .eq (BitVec.ofNat 32 (i 1).val) 3#32)) 0#32) = 1#1

/-- The slot of the four-slot store that the point reads and writes. -/
abbrev slotOf (i : grid0.Coords) (s5 : Vec F S4x64x27648 .f32) : Vec F S1x64x27648 .f32 :=
  VecWindow.window s5 (k0_off1 i) S1x64x27648.size (k0_off1_inb i)
/-- The one number of a one-element vector. -/
abbrev elemOf (x0 : Vec F S1 .f32) : Elt F .f32 := x0 (Shape.Idx.first (by decide))

set_option maxHeartbeats 1000000 in
/-- The body at the first block of a batch: the Gram sum is started from zero. -/
theorem body_first (c : Dev nD) (i : grid0.Coords) (arg2 : Memref sig .tc .smem S1 .f32) (harg2 : arg2.IsWhole) (arg3 : Memref sig .tc .vmem S1x64x27648 .f32) (harg3 : arg3.IsWhole) (arg4 : Memref sig .tc .vmem S1x64x27648 .f32) (harg4 : arg4.IsWhole) (arg5 : Memref sig .tc .vmem S4x64x27648 .f32) (harg5 : arg5.IsWhole) (arg6 : Memref sig .tc .vmem S64x64 .f32) (harg6 : arg6.IsWhole) (arg7 : Memref sig .tc .vmem S64x64 .f32) (harg7 : arg7.IsWhole) (hc0 : condB i) (hc1 : condFst i) (hc2 : ¬condLst i)
    (x0 : Vec F S1 .f32) (x1 d4 : Vec F S1x64x27648 .f32) (s5 : Vec F S4x64x27648 .f32) (s6 s7 : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay1 (slotOf i s5) s7 (elemOf x0)) ∗ owns (c : Thread nD τ) arg5 fullShare (VecWindow.put s5 (k0_off2 i) S1x64x27648.size (k0_pay6 x1)) ∗ owns (c : Thread nD τ) arg6 fullShare (k0_pay4 x1 k0_pay3) ∗ owns (c : Thread nD τ) arg7 fullShare s7) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  have e2 : View.readAt (Elt F) arg2.view (Rect.unit ![0] S1.size inb_S1_S1_0).toLoadRect (harg2.unread x0) = x0 := (View.readAt_full _ _ _).trans hf0
  have e3 : View.readAt (Elt F) arg3.view (Rect.unit ![0, 0, 0] S1x64x27648.size inb_S1x64x27648_S1x64x27648_0_0_0).toLoadRect (harg3.unread x1) = x1 := (View.readAt_full _ _ _).trans hf1
  have e5 : View.readAt (Elt F) arg5.view (Rect.unit (s := S4x64x27648) (k0_off1 i) S1x64x27648.size (k0_off1_inb i)).toLoadRect (harg5.unread s5) = slotOf i s5 := by
    rw [View.readAt_unit _ _ _ rfl (k0_off1_inb i), hf5]
  have e6 : View.readAt (Elt F) arg6.view (Rect.unit ![0, 0] S64x64.size inb_S64x64_S64x64_0_0).toLoadRect (harg6.unread s6) = s6 := (View.readAt_full _ _ _).trans hf6
  have e7 : View.readAt (Elt F) arg7.view (Rect.unit ![0, 0] S64x64.size inb_S64x64_S64x64_0_0).toLoadRect (harg7.unread s7) = s7 := (View.readAt_full _ _ _).trans hf7
  sl_exec (disch := first | sl_exact hc0 | sl_exact hc1 | sl_exact hc2)
  sl_step
  iapply Hk
  isplitl [H0]; · iexists _; isplitr; swap; (· iexact H0); ipureintro; exact hf0
  isplitl [H1]; · iexists _; isplitr; swap; (· iexact H1); ipureintro; exact hf1
  isplitl [H2]
  · iexists _; isplitr; swap; (· iexact H2)
    ipureintro
    refine (View.read_writes_full _ _ _ _ _).trans ?_
    sl_unfold_words
    exact congrArg (k0_pay1 (slotOf i s5) s7) rfl
  isplitl [H5]
  · iexists _; isplitr; swap; (· iexact H5)
    ipureintro
    sl_unfold_words
    refine (View.read_writes_cons_put _ _ _ _ _ rfl).trans ?_
    rw [View.writes_nil, hf5]
  isplitl [H6]
  · iexists _; isplitr; swap; (· iexact H6)
    ipureintro
    sl_unfold_words
    refine (View.read_writes_full _ _ _ _ _).trans ?_
    exact congrArg (k0_pay4 x1) (View.readCov_full _ _ _ _ _)
  · iexists _; isplitr; swap; (· iexact H7)
    ipureintro
    exact hf7

set_option maxHeartbeats 1000000 in
/-- The body at an inner block of a batch: the Gram sum goes on. -/
theorem body_mid (c : Dev nD) (i : grid0.Coords) (arg2 : Memref sig .tc .smem S1 .f32) (harg2 : arg2.IsWhole) (arg3 : Memref sig .tc .vmem S1x64x27648 .f32) (harg3 : arg3.IsWhole) (arg4 : Memref sig .tc .vmem S1x64x27648 .f32) (harg4 : arg4.IsWhole) (arg5 : Memref sig .tc .vmem S4x64x27648 .f32) (harg5 : arg5.IsWhole) (arg6 : Memref sig .tc .vmem S64x64 .f32) (harg6 : arg6.IsWhole) (arg7 : Memref sig .tc .vmem S64x64 .f32) (harg7 : arg7.IsWhole) (hc0 : condB i) (hc1 : ¬condFst i) (hc2 : ¬condLst i)
    (x0 : Vec F S1 .f32) (x1 d4 : Vec F S1x64x27648 .f32) (s5 : Vec F S4x64x27648 .f32) (s6 s7 : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay1 (slotOf i s5) s7 (elemOf x0)) ∗ owns (c : Thread nD τ) arg5 fullShare (VecWindow.put s5 (k0_off2 i) S1x64x27648.size (k0_pay6 x1)) ∗ owns (c : Thread nD τ) arg6 fullShare (k0_pay4 x1 s6) ∗ owns (c : Thread nD τ) arg7 fullShare s7) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  have e2 : View.readAt (Elt F) arg2.view (Rect.unit ![0] S1.size inb_S1_S1_0).toLoadRect (harg2.unread x0) = x0 := (View.readAt_full _ _ _).trans hf0
  have e3 : View.readAt (Elt F) arg3.view (Rect.unit ![0, 0, 0] S1x64x27648.size inb_S1x64x27648_S1x64x27648_0_0_0).toLoadRect (harg3.unread x1) = x1 := (View.readAt_full _ _ _).trans hf1
  have e5 : View.readAt (Elt F) arg5.view (Rect.unit (s := S4x64x27648) (k0_off1 i) S1x64x27648.size (k0_off1_inb i)).toLoadRect (harg5.unread s5) = slotOf i s5 := by
    rw [View.readAt_unit _ _ _ rfl (k0_off1_inb i), hf5]
  have e6 : View.readAt (Elt F) arg6.view (Rect.unit ![0, 0] S64x64.size inb_S64x64_S64x64_0_0).toLoadRect (harg6.unread s6) = s6 := (View.readAt_full _ _ _).trans hf6
  have e7 : View.readAt (Elt F) arg7.view (Rect.unit ![0, 0] S64x64.size inb_S64x64_S64x64_0_0).toLoadRect (harg7.unread s7) = s7 := (View.readAt_full _ _ _).trans hf7
  sl_exec (disch := first | sl_exact hc0 | sl_exact hc1 | sl_exact hc2)
  sl_step
  iapply Hk
  isplitl [H0]; · iexists _; isplitr; swap; (· iexact H0); ipureintro; exact hf0
  isplitl [H1]; · iexists _; isplitr; swap; (· iexact H1); ipureintro; exact hf1
  isplitl [H2]
  · iexists _; isplitr; swap; (· iexact H2)
    ipureintro
    refine (View.read_writes_full _ _ _ _ _).trans ?_
    sl_unfold_words
    exact congrArg (k0_pay1 (slotOf i s5) s7) rfl
  isplitl [H5]
  · iexists _; isplitr; swap; (· iexact H5)
    ipureintro
    sl_unfold_words
    refine (View.read_writes_cons_put _ _ _ _ _ rfl).trans ?_
    rw [View.writes_nil, hf5]
  isplitl [H6]
  · iexists _; isplitr; swap; (· iexact H6)
    ipureintro
    sl_unfold_words
    refine (View.read_writes_full _ _ _ _ _).trans ?_
    rfl
  · iexists _; isplitr; swap; (· iexact H7)
    ipureintro
    exact hf7

set_option maxHeartbeats 1000000 in
/-- The body at the last block of a batch: the Gram sum is finished and the affinity stored. -/
theorem body_last (c : Dev nD) (i : grid0.Coords) (arg2 : Memref sig .tc .smem S1 .f32) (harg2 : arg2.IsWhole) (arg3 : Memref sig .tc .vmem S1x64x27648 .f32) (harg3 : arg3.IsWhole) (arg4 : Memref sig .tc .vmem S1x64x27648 .f32) (harg4 : arg4.IsWhole) (arg5 : Memref sig .tc .vmem S4x64x27648 .f32) (harg5 : arg5.IsWhole) (arg6 : Memref sig .tc .vmem S64x64 .f32) (harg6 : arg6.IsWhole) (arg7 : Memref sig .tc .vmem S64x64 .f32) (harg7 : arg7.IsWhole) (hc0 : condB i) (hc1 : ¬condFst i) (hc2 : condLst i)
    (x0 : Vec F S1 .f32) (x1 d4 : Vec F S1x64x27648 .f32) (s5 : Vec F S4x64x27648 .f32) (s6 s7 : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay1 (slotOf i s5) s7 (elemOf x0)) ∗ owns (c : Thread nD τ) arg5 fullShare (VecWindow.put s5 (k0_off2 i) S1x64x27648.size (k0_pay6 x1)) ∗ owns (c : Thread nD τ) arg6 fullShare (k0_pay4 x1 s6) ∗ owns (c : Thread nD τ) arg7 fullShare (k0_pay5 (k0_pay4 x1 s6))) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  have e2 : View.readAt (Elt F) arg2.view (Rect.unit ![0] S1.size inb_S1_S1_0).toLoadRect (harg2.unread x0) = x0 := (View.readAt_full _ _ _).trans hf0
  have e3 : View.readAt (Elt F) arg3.view (Rect.unit ![0, 0, 0] S1x64x27648.size inb_S1x64x27648_S1x64x27648_0_0_0).toLoadRect (harg3.unread x1) = x1 := (View.readAt_full _ _ _).trans hf1
  have e5 : View.readAt (Elt F) arg5.view (Rect.unit (s := S4x64x27648) (k0_off1 i) S1x64x27648.size (k0_off1_inb i)).toLoadRect (harg5.unread s5) = slotOf i s5 := by
    rw [View.readAt_unit _ _ _ rfl (k0_off1_inb i), hf5]
  have e6 : View.readAt (Elt F) arg6.view (Rect.unit ![0, 0] S64x64.size inb_S64x64_S64x64_0_0).toLoadRect (harg6.unread s6) = s6 := (View.readAt_full _ _ _).trans hf6
  have e7 : View.readAt (Elt F) arg7.view (Rect.unit ![0, 0] S64x64.size inb_S64x64_S64x64_0_0).toLoadRect (harg7.unread s7) = s7 := (View.readAt_full _ _ _).trans hf7
  sl_exec (disch := first | sl_exact hc0 | sl_exact hc1 | sl_exact hc2)
  sl_step
  iapply Hk
  isplitl [H0]; · iexists _; isplitr; swap; (· iexact H0); ipureintro; exact hf0
  isplitl [H1]; · iexists _; isplitr; swap; (· iexact H1); ipureintro; exact hf1
  isplitl [H2]
  · iexists _; isplitr; swap; (· iexact H2)
    ipureintro
    refine (View.read_writes_full _ _ _ _ _).trans ?_
    sl_unfold_words
    exact congrArg (k0_pay1 (slotOf i s5) s7) rfl
  isplitl [H5]
  · iexists _; isplitr; swap; (· iexact H5)
    ipureintro
    sl_unfold_words
    refine (View.read_writes_cons_put _ _ _ _ _ rfl).trans ?_
    rw [View.writes_nil, hf5]
  isplitl [H6]
  · iexists _; isplitr; swap; (· iexact H6)
    ipureintro
    sl_unfold_words
    refine (View.read_writes_full _ _ _ _ _).trans ?_
    rfl
  · iexists _; isplitr; swap; (· iexact H7)
    ipureintro
    sl_unfold_words
    refine (View.read_writes_full _ _ _ _ _).trans ?_
    exact congrArg k0_pay5 (View.readCov_full _ _ _ _ _)

set_option maxHeartbeats 1000000 in
/-- The body once every batch has been read: only the output block is stored. -/
theorem body_drain (c : Dev nD) (i : grid0.Coords) (arg2 : Memref sig .tc .smem S1 .f32) (harg2 : arg2.IsWhole) (arg3 : Memref sig .tc .vmem S1x64x27648 .f32) (harg3 : arg3.IsWhole) (arg4 : Memref sig .tc .vmem S1x64x27648 .f32) (harg4 : arg4.IsWhole) (arg5 : Memref sig .tc .vmem S4x64x27648 .f32) (harg5 : arg5.IsWhole) (arg6 : Memref sig .tc .vmem S64x64 .f32) (harg6 : arg6.IsWhole) (arg7 : Memref sig .tc .vmem S64x64 .f32) (harg7 : arg7.IsWhole) (hc0 : ¬condB i)
    (x0 : Vec F S1 .f32) (x1 d4 : Vec F S1x64x27648 .f32) (s5 : Vec F S4x64x27648 .f32) (s6 s7 : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay1 (slotOf i s5) s7 (elemOf x0)) ∗ owns (c : Thread nD τ) arg5 fullShare s5 ∗ owns (c : Thread nD τ) arg6 fullShare s6 ∗ owns (c : Thread nD τ) arg7 fullShare s7) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  have e2 : View.readAt (Elt F) arg2.view (Rect.unit ![0] S1.size inb_S1_S1_0).toLoadRect (harg2.unread x0) = x0 := (View.readAt_full _ _ _).trans hf0
  have e3 : View.readAt (Elt F) arg3.view (Rect.unit ![0, 0, 0] S1x64x27648.size inb_S1x64x27648_S1x64x27648_0_0_0).toLoadRect (harg3.unread x1) = x1 := (View.readAt_full _ _ _).trans hf1
  have e5 : View.readAt (Elt F) arg5.view (Rect.unit (s := S4x64x27648) (k0_off1 i) S1x64x27648.size (k0_off1_inb i)).toLoadRect (harg5.unread s5) = slotOf i s5 := by
    rw [View.readAt_unit _ _ _ rfl (k0_off1_inb i), hf5]
  have e6 : View.readAt (Elt F) arg6.view (Rect.unit ![0, 0] S64x64.size inb_S64x64_S64x64_0_0).toLoadRect (harg6.unread s6) = s6 := (View.readAt_full _ _ _).trans hf6
  have e7 : View.readAt (Elt F) arg7.view (Rect.unit ![0, 0] S64x64.size inb_S64x64_S64x64_0_0).toLoadRect (harg7.unread s7) = s7 := (View.readAt_full _ _ _).trans hf7
  sl_exec (disch := first | sl_exact hc0)
  sl_step
  iapply Hk
  isplitl [H0]; · iexists _; isplitr; swap; (· iexact H0); ipureintro; exact hf0
  isplitl [H1]; · iexists _; isplitr; swap; (· iexact H1); ipureintro; exact hf1
  isplitl [H2]
  · iexists _; isplitr; swap; (· iexact H2)
    ipureintro
    refine (View.read_writes_full _ _ _ _ _).trans ?_
    sl_unfold_words
    exact congrArg (k0_pay1 (slotOf i s5) s7) rfl
  isplitl [H5]
  · iexists _; isplitr; swap; (· iexact H5)
    ipureintro
    exact hf5
  isplitl [H6]
  · iexists _; isplitr; swap; (· iexact H6)
    ipureintro
    exact hf6
  · iexists _; isplitr; swap; (· iexact H7)
    ipureintro
    exact hf7

end Cert.KernelIdeal.Hand
end
-- ==== Proof.Data.lean ====
module

public import proofs.«01_k».proof.Proof.Launch1
public import proofs.«01_k».proof.Proof.Body
public import proofs.«01_k».proof.Proof.Gen.KernelIdeal.Points
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen

variable {F : FTy → Type} [FloatOps F]

local notation "𝕄" => MT nD τ sig Unit (Elt F) ℕ (UR sig nD τ) ℕ

/-! ## The grid: which branch a point takes -/

/-- There are 36 points. -/
theorem pt_lt (t : Fin cfg0.N) : t.val < 36 := Nat.lt_of_lt_of_eq t.isLt N_0

/-- The second coordinate of a point is the point modulo four. -/
theorem coord_one (t : Fin cfg0.N) : (grid0.coords t 1).val = t.val % 4 := by
  have e : (grid0.coords t 1).val = t.val / 1 % 4 := Grid.coords_val t 1 (by decide) rfl
  rw [e, Nat.div_one]

/-- A batch is read at the first 32 points. -/
theorem condB_iff (t : Fin cfg0.N) : condB (grid0.coords t) ↔ t.val < 32 :=
  (by decide +kernel : ∀ u : Fin grid0.N, condB (grid0.coords u) ↔ u.val < 32) t

/-- The first block of a batch is read at the multiples of four. -/
theorem condFst_iff (t : Fin cfg0.N) : condFst (grid0.coords t) ↔ t.val % 4 = 0 := by
  have ht := pt_lt t
  simp only [condFst, coord_one t]
  word_cmp

/-- The last block of a batch is read at the points that are three modulo four. -/
theorem condLst_iff (t : Fin cfg0.N) : condLst (grid0.coords t) ↔ t.val % 4 = 3 := by
  have ht := pt_lt t
  simp only [condLst, coord_one t]
  word_cmp

/-! ## The four-slot store -/

/-- The slot a point works on starts at the point modulo four. -/
theorem off_zero (t : Fin cfg0.N) : k0_off1 (grid0.coords t) 0 = t.val % 4 := by
  have ht := pt_lt t
  have e : k0_off1 (grid0.coords t) 0 = (Scalar.indexCast (BitVec.ofNat 32 (grid0.coords t 1).val)).toNat := rfl
  rw [e, coord_one t]
  have h4 : t.val % 4 < 4 := Nat.mod_lt _ (by decide)
  revert h4
  generalize t.val % 4 = k
  intro h4
  exact (by decide : ∀ j : Fin 4, (Scalar.indexCast (BitVec.ofNat 32 j.val)).toNat = j.val) ⟨k, h4⟩

/-- Points that agree modulo four work on one slot. -/
theorem slotOf_congr (t u : Fin cfg0.N) (h : t.val % 4 = u.val % 4) (s : Vec F S4x64x27648 .f32) :
    slotOf (grid0.coords t) s = slotOf (grid0.coords u) s := by
  have e : k0_off1 (grid0.coords t) = k0_off1 (grid0.coords u) := by
    have e1 : (grid0.coords t 1).val = (grid0.coords u 1).val := by rw [coord_one, coord_one, h]
    unfold k0_off1; rw [e1]
  unfold slotOf
  have key : ∀ (o o' : Fin 3 → ℕ) (hh : o = o') (i1 : ∀ a, o a + S1x64x27648.size a ≤ S4x64x27648.size a) (i2 : ∀ a, o' a + S1x64x27648.size a ≤ S4x64x27648.size a),
      VecWindow.window s o S1x64x27648.size i1 = VecWindow.window s o' S1x64x27648.size i2 := by
    intro o o' hh i1 i2; subst hh; rfl
  exact key _ _ e _ _

/-- The slot just written holds what was written. -/
theorem slotOf_put_same (t : Fin cfg0.N) (s : Vec F S4x64x27648 .f32) (w : Vec F S1x64x27648 .f32) :
    slotOf (grid0.coords t) (VecWindow.put s (k0_off2 (grid0.coords t)) S1x64x27648.size w) = w :=
  VecWindow.window_put_same s (k0_off1 (grid0.coords t)) S1x64x27648.size (k0_off1_inb _) w

/-- The other slots are left alone. -/
theorem slotOf_put_ne (t u : Fin cfg0.N) (h : t.val % 4 ≠ u.val % 4) (s : Vec F S4x64x27648 .f32) (w : Vec F S1x64x27648 .f32) :
    slotOf (grid0.coords u) (VecWindow.put s (k0_off2 (grid0.coords t)) S1x64x27648.size w) = slotOf (grid0.coords u) s := by
  refine VecWindow.window_put_of_disjoint s (k0_off1 (grid0.coords t)) S1x64x27648.size (k0_off1 (grid0.coords u)) S1x64x27648.size (k0_off1_inb _) w 0 ?_
  rw [off_zero, off_zero]
  show u.val % 4 + 1 ≤ t.val % 4 ∨ t.val % 4 + 1 ≤ u.val % 4
  omega

/-! ## What the scratch holds -/

section Model
variable (X : ℕ → Vec F S1x64x27648 .f32)

/-- The Gram sum after the block of point `n` has been added. -/
def gramAfter : ℕ → Vec F S64x64 .f32
  | 0 => k0_pay4 (X 0) k0_pay3
  | n + 1 => if (n + 1) % 4 = 0 then k0_pay4 (X (n + 1)) k0_pay3 else k0_pay4 (X (n + 1)) (gramAfter n)

/-- The Gram sum starts afresh at a multiple of four. -/
theorem gramAfter_first (n : ℕ) (h : n % 4 = 0) : gramAfter X n = k0_pay4 (X n) k0_pay3 := by
  cases n with
  | zero => rfl
  | succ n => unfold gramAfter; rw [if_pos h]

/-- The Gram sum goes on elsewhere. -/
theorem gramAfter_next (n : ℕ) (h : n % 4 ≠ 0) : gramAfter X n = k0_pay4 (X n) (gramAfter X (n - 1)) := by
  cases n with
  | zero => exact absurd rfl h
  | succ n => conv_lhs => unfold gramAfter
              rw [if_neg h]; rfl

/-- The affinity of batch `b`. -/
def affOf (b : ℕ) : Vec F S64x64 .f32 := k0_pay5 (gramAfter X (4 * b + 3))

/-- What the scratch holds before point `n`: the last four blocks read, the running Gram sum, the affinity of the
    batch before. -/
structure Inv (n : ℕ) (s5 : Vec F S4x64x27648 .f32) (s6 s7 : Vec F S64x64 .f32) : Prop where
  slots : ∀ u : Fin cfg0.N, u.val < n → u.val < 32 → n ≤ u.val + 4 → slotOf (grid0.coords u) s5 = k0_pay6 (X u.val)
  gram : 0 < n → n ≤ 32 → s6 = gramAfter X (n - 1)
  aff : 4 ≤ n → n < 36 → s7 = affOf X (n / 4 - 1)

/-- Before the first point nothing is asked. -/
theorem Inv.zero (s5 : Vec F S4x64x27648 .f32) (s6 s7 : Vec F S64x64 .f32) : Inv X 0 s5 s6 s7 :=
  ⟨fun _ h => absurd h (Nat.not_lt_zero _), fun h => absurd h (lt_irrefl _), fun h => absurd h (by decide)⟩

variable {X}

/-- After a block has been stored its slot holds it and the three before it stay. -/
theorem Inv.slots_put {s5 : Vec F S4x64x27648 .f32} {s6 s7 : Vec F S64x64 .f32} (t : Fin cfg0.N) (h : Inv X t.val s5 s6 s7) :
    ∀ u : Fin cfg0.N, u.val < t.val + 1 → u.val < 32 → t.val + 1 ≤ u.val + 4 →
      slotOf (grid0.coords u) (VecWindow.put s5 (k0_off2 (grid0.coords t)) S1x64x27648.size (k0_pay6 (X t.val))) = k0_pay6 (X u.val) := by
  intro u h1 h2 h3
  by_cases e : u.val = t.val
  · have e' : u = t := Fin.ext e
    subst e'; exact slotOf_put_same _ _ _
  · rw [slotOf_put_ne t u (by omega)]
    exact h.slots u (by omega) h2 (by omega)

/-- The step at the first block of a batch. -/
theorem Inv.first {s5 : Vec F S4x64x27648 .f32} {s6 s7 : Vec F S64x64 .f32} (t : Fin cfg0.N) (h : Inv X t.val s5 s6 s7)
    (h0 : t.val < 32) (h1 : t.val % 4 = 0) :
    Inv X (t.val + 1) (VecWindow.put s5 (k0_off2 (grid0.coords t)) S1x64x27648.size (k0_pay6 (X t.val))) (k0_pay4 (X t.val) k0_pay3) s7 := by
  refine ⟨h.slots_put t, fun _ _ => ?_, fun h4 h5 => ?_⟩
  · rw [Nat.add_sub_cancel, gramAfter_first X _ h1]
  · rw [h.aff (by omega) (by omega)]; congr 1; omega

/-- The step at an inner block of a batch. -/
theorem Inv.mid {s5 : Vec F S4x64x27648 .f32} {s6 s7 : Vec F S64x64 .f32} (t : Fin cfg0.N) (h : Inv X t.val s5 s6 s7)
    (h0 : t.val < 32) (h1 : t.val % 4 ≠ 0) (h2 : t.val % 4 ≠ 3) :
    Inv X (t.val + 1) (VecWindow.put s5 (k0_off2 (grid0.coords t)) S1x64x27648.size (k0_pay6 (X t.val))) (k0_pay4 (X t.val) s6) s7 := by
  refine ⟨h.slots_put t, fun _ _ => ?_, fun h4 h5 => ?_⟩
  · rw [Nat.add_sub_cancel, gramAfter_next X _ h1, h.gram (by omega) (by omega)]
  · rw [h.aff (by omega) (by omega)]; congr 1; omega

/-- The step at the last block of a batch. -/
theorem Inv.last {s5 : Vec F S4x64x27648 .f32} {s6 s7 : Vec F S64x64 .f32} (t : Fin cfg0.N) (h : Inv X t.val s5 s6 s7)
    (h0 : t.val < 32) (h2 : t.val % 4 = 3) :
    Inv X (t.val + 1) (VecWindow.put s5 (k0_off2 (grid0.coords t)) S1x64x27648.size (k0_pay6 (X t.val))) (k0_pay4 (X t.val) s6)
      (k0_pay5 (k0_pay4 (X t.val) s6)) := by
  have e : k0_pay4 (X t.val) s6 = gramAfter X t.val := by
    rw [gramAfter_next X _ (by omega), h.gram (by omega) (by omega)]
  refine ⟨h.slots_put t, fun _ _ => ?_, fun h4 h5 => ?_⟩
  · rw [Nat.add_sub_cancel, e]
  · rw [e]; unfold affOf; congr 2; omega

/-- The step once every batch has been read. -/
theorem Inv.drain {s5 : Vec F S4x64x27648 .f32} {s6 s7 : Vec F S64x64 .f32} (t : Fin cfg0.N) (h : Inv X t.val s5 s6 s7)
    (h0 : ¬t.val < 32) : Inv X (t.val + 1) s5 s6 s7 := by
  refine ⟨fun u h1 h2 h3 => h.slots u (by omega) h2 (by omega), fun _ _ => by omega, fun h4 h5 => ?_⟩
  rw [h.aff (by omega) (by omega)]; congr 1; omega

/-- The output block of point `n`. -/
def outOf (X : ℕ → Vec F S1x64x27648 .f32) (g : Elt F .f32) (n : ℕ) : Vec F S1x64x27648 .f32 :=
  k0_pay1 (k0_pay6 (X (n - 4))) (affOf X (n / 4 - 1)) g

/-- From the fifth point on the block the body leaves is the one of the batch before. -/
theorem Inv.out {s5 : Vec F S4x64x27648 .f32} {s6 s7 : Vec F S64x64 .f32} (t : Fin cfg0.N) (h : Inv X t.val s5 s6 s7)
    (h4 : 4 ≤ t.val) (g : Elt F .f32) : k0_pay1 (slotOf (grid0.coords t) s5) s7 g = outOf X g t.val := by
  have ht := pt_lt t
  unfold outOf
  rw [h.aff h4 ht]
  have e : slotOf (grid0.coords t) s5 = k0_pay6 (X (t.val - 4)) := by
    have hu : t.val - 4 < cfg0.N := lt_of_le_of_lt (Nat.sub_le _ _) t.isLt
    rw [slotOf_congr t ⟨t.val - 4, hu⟩ (by show t.val % 4 = (t.val - 4) % 4; omega)]
    exact h.slots ⟨t.val - 4, hu⟩ (by show t.val - 4 < t.val; omega) (by show t.val - 4 < 32; omega) (by show t.val ≤ t.val - 4 + 4; omega)
  rw [e]

end Model

/-! ## The proof data -/

variable (m : (ℓ : Loc nD τ sig) → Buf (Elt F) ℓ)

/-- The block of `x` the pipeline fetches at point `n`. -/
def xAt (c : Dev nD) (n : ℕ) : Vec F S1x64x27648 .f32 :=
  if h : n < cfg0.N then iblk m c 1 ⟨n, h⟩ else iblk m c 1 ⟨0, by decide⟩

/-- The scale the pipeline fetches at a point. -/
def gAt (c : Dev nD) (t : Fin cfg0.N) : Elt F .f32 := elemOf (iblk m c 0 t)

/-- At a point of the grid it is the window's block. -/
theorem xAt_eq (c : Dev nD) (t : Fin cfg0.N) : xAt m c t.val = iblk m c 1 t := by
  unfold xAt; rw [dif_pos t.isLt]

/-- The body's invariant before point `n`: the three scratch arrays at contents that satisfy `Inv`, the generator
    register at some state. -/
def PhiR (c : Dev nD) (n : ℕ) : sProp 𝕄 :=
  iprop(iprop(∃ s5 s6 s7, ⌜Inv (xAt m c) n s5 s6 s7⌝ ∗ owns (c : Thread nD τ) (Memref.whole cc0_scratch0) fullShare s5
    ∗ owns (c : Thread nD τ) (Memref.whole cc0_scratch1) fullShare s6 ∗ owns (c : Thread nD τ) (Memref.whole cc0_scratch2) fullShare s7) ∗ (∃ r, prngReg c r))

/-- What the body may leave: the inputs as found; from the fifth point on the output block of the batch before. -/
def afterR (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, t, _, X => 4 ≤ t.val → X = outOf (xAt m c) (gAt m c t) t.val
  | ⟨n + 3, h⟩, _, _, _ => absurd h (by show ¬n + 3 < 3; omega)

/-- The relational data of the pipeline. -/
def rd (c : Dev nD) : PData F c where
  A w := V m c (arrRef spec0 w)
  after := afterR m c
  Φ t := PhiR m c t.val
  q _ := fullShare
  owed _ := 0

/-- The scratch and the register as the launch hands them over. -/
theorem phiA_eq (c : Dev nD) :
    (ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold ΦA; rw [scopedRest0_eq]; simp only [owns_whole]; try rfl

/-- The invariant holds before the first point. -/
theorem phi_in (c : Dev nD) : ΦA spec0 c ⊢ (rd m c).Φ 0 := by
  rw [show (rd m c).Φ 0 = PhiR m c 0 from rfl, phiA_eq]
  unfold PhiR
  iintro ⟨⟨⟨%s5, H5⟩, ⟨%s6, H6⟩, ⟨%s7, H7⟩⟩, Hg⟩
  isplitr [Hg]
  · iexists s5; iexists s6; iexists s7
    isplitr; · ipureintro; exact Inv.zero _ _ _ _
    isplitl [H5]; · iexact H5
    isplitl [H6]; · iexact H6
    iexact H7
  iexact Hg

/-- The invariant after the last point gives the scratch back. -/
theorem phi_out (c : Dev nD) : (rd m c).Φ (Fin.last cfg0.N) ⊢ ΦA spec0 c := by
  rw [show (rd m c).Φ (Fin.last cfg0.N) = PhiR m c cfg0.N from rfl, phiA_eq]
  unfold PhiR
  iintro ⟨⟨%s5, %s6, %s7, %hI, H5, H6, H7⟩, Hg⟩
  isplitr [Hg]
  · isplitl [H5]; · iexists s5; iexact H5
    isplitl [H6]; · iexists s6; iexact H6
    iexists s7; iexact H7
  iexact Hg

/-- What the body finds of the scale is the fetched block. -/
theorem finds_0 (c : Dev nD) (t : Fin cfg0.N) (Y : (cfg0.win 0).block.Idx → Elt F (cfg0.win 0).elt) (h : (rd m c).Finds 0 t Y) :
    Y = iblk m c 0 t := by
  obtain ⟨d, e⟩ := RDat.finds_in_eq_fetched (rd m c) 0 rfl (fun _ _ _ => rfl) (fun _ _ _ h => h) t Y h
  exact e

/-- What the body finds of `x` is the fetched block. -/
theorem finds_1 (c : Dev nD) (t : Fin cfg0.N) (Y : (cfg0.win 1).block.Idx → Elt F (cfg0.win 1).elt) (h : (rd m c).Finds 1 t Y) :
    Y = iblk m c 1 t := by
  obtain ⟨d, e⟩ := RDat.finds_in_eq_fetched (rd m c) 1 rfl (fun _ _ _ => rfl) (fun _ _ _ h => h) t Y h
  exact e

/-- The body table's row is the kernel on the point's buffers. -/
theorem row_eq (t : Fin cfg0.N) : defs₀ (F := F) .tc cfg0.body (cfg0.bodyArgs t (cfg0.slots t)) = bodyAt0 t := by
  unfold defs₀; rw [Defs.onTc_tc]

set_option maxHeartbeats 1000000 in
/-- The body obligation in terms of the three windows. -/
theorem sound (c : Dev nD) (t : Fin cfg0.N) (Y2 : Vec F S1x64x27648 .f32) :
    iprop(PhiR m c t.val ∗ (rd m c).owesAt () t.castSucc
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare Y2)
      ⊢ wp frame (wpE (defs₀ (F := F)) Variants.none c none) Set.univ (bodyAt0 t) fun _ =>
        iprop(PhiR m c (t.val + 1) ∗ (rd m c).owesAt () t.castSucc
          ∗ iprop(∃ X, ⌜X = iblk m c 0 t⌝ ∗ owns (c : Thread nD τ) (win0_0.stage (cfg0.slots t 0)) fullShare X)
          ∗ iprop(∃ X, ⌜X = iblk m c 1 t⌝ ∗ owns (c : Thread nD τ) (win0_1.stage (cfg0.slots t 1)) fullShare X)
          ∗ iprop(∃ X, ⌜4 ≤ t.val → X = outOf (xAt m c) (gAt m c t) t.val⌝ ∗ owns (c : Thread nD τ) (win0_2.stage (cfg0.slots t 2)) fullShare X)) := by
  unfold PhiR bodyAt0
  iintro ⟨⟨⟨%s5, %s6, %s7, %hI, H5, H6, H7⟩, Hg⟩, Ho, H0, H1, H2⟩
  have hx : xAt m c t.val = iblk m c 1 t := xAt_eq m c t
  by_cases h0 : t.val < 32
  · by_cases h1 : t.val % 4 = 0
    · iapply (body_first c (grid0.coords t) _ _ _ _ _ _ _ _ _ _ _ _ ((condB_iff t).mpr h0) ((condFst_iff t).mpr h1) (fun h => by have := (condLst_iff t).mp h; omega) (iblk m c 0 t) (iblk m c 1 t) Y2 s5 s6 s7 Set.univ _)
      isplitl [H0]; · iexact H0
      isplitl [H1]; · iexact H1
      isplitl [H2]; · iexact H2
      isplitl [H5]; · iexact H5
      isplitl [H6]; · iexact H6
      isplitl [H7]; · iexact H7
      iintro ⟨H0, H1, H2, H5, H6, H7⟩
      isplitl [H5 H6 H7 Hg]
      · isplitr [Hg]
        · iexists _; iexists _; iexists _
          isplitr; swap
          · isplitl [H5]; · iexact H5
            isplitl [H6]; · iexact H6
            iexact H7
          ipureintro; rw [← hx]; exact hI.first t h0 h1
        iexact Hg
      isplitl [Ho]; · iexact Ho
      isplitl [H0]; · iexists _; isplitr; swap; (· iexact H0); ipureintro; rfl
      isplitl [H1]; · iexists _; isplitr; swap; (· iexact H1); ipureintro; rfl
      iexists _; isplitr; swap; (· iexact H2); ipureintro; exact fun h4 => hI.out t h4 _
    · by_cases h2 : t.val % 4 = 3
      · iapply (body_last c (grid0.coords t) _ _ _ _ _ _ _ _ _ _ _ _ ((condB_iff t).mpr h0) (fun h => h1 ((condFst_iff t).mp h)) ((condLst_iff t).mpr h2) (iblk m c 0 t) (iblk m c 1 t) Y2 s5 s6 s7 Set.univ _)
        isplitl [H0]; · iexact H0
        isplitl [H1]; · iexact H1
        isplitl [H2]; · iexact H2
        isplitl [H5]; · iexact H5
        isplitl [H6]; · iexact H6
        isplitl [H7]; · iexact H7
        iintro ⟨H0, H1, H2, H5, H6, H7⟩
        isplitl [H5 H6 H7 Hg]
        · isplitr [Hg]
          · iexists _; iexists _; iexists _
            isplitr; swap
            · isplitl [H5]; · iexact H5
              isplitl [H6]; · iexact H6
              iexact H7
            ipureintro; rw [← hx]; exact hI.last t h0 h2
          iexact Hg
        isplitl [Ho]; · iexact Ho
        isplitl [H0]; · iexists _; isplitr; swap; (· iexact H0); ipureintro; rfl
        isplitl [H1]; · iexists _; isplitr; swap; (· iexact H1); ipureintro; rfl
        iexists _; isplitr; swap; (· iexact H2); ipureintro; exact fun h4 => hI.out t h4 _
      · iapply (body_mid c (grid0.coords t) _ _ _ _ _ _ _ _ _ _ _ _ ((condB_iff t).mpr h0) (fun h => h1 ((condFst_iff t).mp h)) (fun h => h2 ((condLst_iff t).mp h)) (iblk m c 0 t) (iblk m c 1 t) Y2 s5 s6 s7 Set.univ _)
        isplitl [H0]; · iexact H0
        isplitl [H1]; · iexact H1
        isplitl [H2]; · iexact H2
        isplitl [H5]; · iexact H5
        isplitl [H6]; · iexact H6
        isplitl [H7]; · iexact H7
        iintro ⟨H0, H1, H2, H5, H6, H7⟩
        isplitl [H5 H6 H7 Hg]
        · isplitr [Hg]
          · iexists _; iexists _; iexists _
            isplitr; swap
            · isplitl [H5]; · iexact H5
              isplitl [H6]; · iexact H6
              iexact H7
            ipureintro; rw [← hx]; exact hI.mid t h0 h1 h2
          iexact Hg
        isplitl [Ho]; · iexact Ho
        isplitl [H0]; · iexists _; isplitr; swap; (· iexact H0); ipureintro; rfl
        isplitl [H1]; · iexists _; isplitr; swap; (· iexact H1); ipureintro; rfl
        iexists _; isplitr; swap; (· iexact H2); ipureintro; exact fun h4 => hI.out t h4 _
  · iapply (body_drain c (grid0.coords t) _ _ _ _ _ _ _ _ _ _ _ _ (fun h => h0 ((condB_iff t).mp h)) (iblk m c 0 t) (iblk m c 1 t) Y2 s5 s6 s7 Set.univ _)
    isplitl [H0]; · iexact H0
    isplitl [H1]; · iexact H1
    isplitl [H2]; · iexact H2
    isplitl [H5]; · iexact H5
    isplitl [H6]; · iexact H6
    isplitl [H7]; · iexact H7
    iintro ⟨H0, H1, H2, H5, H6, H7⟩
    isplitl [H5 H6 H7 Hg]
    · isplitr [Hg]
      · iexists _; iexists _; iexists _
        isplitr; swap
        · isplitl [H5]; · iexact H5
          isplitl [H6]; · iexact H6
          iexact H7
        ipureintro; exact hI.drain t h0
      iexact Hg
    isplitl [Ho]; · iexact Ho
    isplitl [H0]; · iexists _; isplitr; swap; (· iexact H0); ipureintro; rfl
    isplitl [H1]; · iexists _; isplitr; swap; (· iexact H1); ipureintro; rfl
    iexists _; isplitr; swap; (· iexact H2); ipureintro; exact fun h4 => hI.out t h4 _

/-- The body obligation of the relational data. -/
theorem obligation (c : Dev nD) : (rd m c).BodyObligation (defs₀ (F := F)) Variants.none () Set.univ := by
  intro t Y hY
  have h0 := finds_0 m c t _ (hY 0)
  have h1 := finds_1 m c t _ (hY 1)
  rw [bigSep_W0, bigSep_W0, row_eq, h0, h1]
  exact triple_restated (sound m c t (Y 2)) rfl .rfl fun _ => .rfl

end Cert.KernelIdeal.Hand
-- ==== Proof.Array.lean ====
module

public import proofs.«01_k».proof.Proof.Data
public import Idealize.ShloMosaic.Lib.Pipeline.ArrRel
public import Idealize.ShloMosaic.Lib.Pipeline.ValueKit

@[expose] public section

noncomputable section

namespace Cert.KernelIdeal.Hand

open Idealize.ShloMosaic Idealize.ShloMosaic.TcCoe Idealize.ShloMosaic.Tactic
open Idealize.SL Idealize.SL.RA Idealize.SL.Sem
open Idealize.ShloMosaic.Pipeline
open Cert.KernelIdeal.Gen

variable {F : FTy → Type} [FloatOps F]
variable (m : (ℓ : Loc nD τ sig) → Buf (Elt F) ℓ)

/-! ## The host lines -/

/-- The host line after the region leaves the first argument as launched. -/
theorem tail_arg0 (c : Dev nD) (A : (w : Fin cfg0.W) → Buf (Elt F) ((spec0 w).arr.view.loc (c.tc : Thread nD τ))) :
    tailVal m c A main_arg0 = m ((c.tc : Thread nD τ).loc main_arg0) := by
  unfold tailVal
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    withArrays_of_ne _ c (V0 m c) _ main_arg0 (by exact (by decide : ∀ w, arrRef spec0 w ≠ main_arg0))]
  exact V_main_arg0 m c

/-- The host line after the region leaves the second argument as launched. -/
theorem tail_arg1 (c : Dev nD) (A : (w : Fin cfg0.W) → Buf (Elt F) ((spec0 w).arr.view.loc (c.tc : Thread nD τ))) :
    tailVal m c A main_arg1 = m ((c.tc : Thread nD τ).loc main_arg1) := by
  unfold tailVal
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    withArrays_of_ne _ c (V0 m c) _ main_arg1 (by exact (by decide : ∀ w, arrRef spec0 w ≠ main_arg1))]
  exact V_main_arg1 m c

/-- The result is the output array reshaped. -/
theorem tail_v3 (c : Dev nD) (A : (w : Fin cfg0.W) → Buf (Elt F) ((spec0 w).arr.view.loc (c.tc : Thread nD τ))) :
    tailVal m c A main_v3 = shapeCast S8x48x48x48x64 (A 2 : Vec F S8x64x110592 .f32) shapeCasts_S8x64x110592_S8x48x48x48x64 := by
  have e : withArrays spec0 c (V0 m c) A (Proc.devRef .tc main_v2) = A 2 := withArrays_arr spec0 launch0.win.arr_inj c (V0 m c) A 2
  rw [← e]
  rfl

/-- The region's `x` array is the first argument reshaped. -/
theorem V_v0 (c : Dev nD) : (V m c main_v0 : Vec F S8x64x110592 .f32)
    = shapeCast S8x64x110592 (m ((c.tc : Thread nD τ).loc main_arg0) : Vec F S8x48x48x48x64 .f32) shapeCasts_S8x48x48x48x64_S8x64x110592 := rfl

/-- The region's scale is the second argument reshaped. -/
theorem V_v1 (c : Dev nD) : (V m c main_v1 : Vec F S1 .f32)
    = shapeCast S1 (m ((c.tc : Thread nD τ).loc main_arg1) : Vec F S_ .f32) shapeCasts_S_S1 := rfl

/-! ## The blocks at coordinates -/

/-- The `x` block of the first 32 points: batch the point over four, block the point modulo four. -/
theorem index_1 : ∀ t : Fin cfg0.N, t.val < 32 → win0_1.index t = ![t.val / 4, 0, t.val % 4] :=
  (by decide +kernel : ∀ t : Fin grid0.N, t.val < 32 → win0_1.index t = ![t.val / 4, 0, t.val % 4])

/-- The output block from the fifth point on: the batch before. -/
theorem index_2 : ∀ t : Fin cfg0.N, 4 ≤ t.val → win0_2.index t = ![t.val / 4 - 1, 0, t.val % 4] :=
  (by decide +kernel : ∀ t : Fin grid0.N, 4 ≤ t.val → win0_2.index t = ![t.val / 4 - 1, 0, t.val % 4])

/-- The output is written back from the fifth point on only. -/
theorem flush_2 : ∀ t : Fin cfg0.N, (cfg0.win 2).flush t = true → 4 ≤ t.val :=
  (by decide +kernel : ∀ t : Fin grid0.N, win0_2.flush t = true → 4 ≤ t.val)

/-- The scale's block is its array. -/
theorem index_0 : ∀ t : Fin cfg0.N, win0_0.index t = ![0] :=
  (by decide +kernel : ∀ t : Fin grid0.N, win0_0.index t = ![0])

/-- The place of an element of block `i` of batch `b` in the array. -/
abbrev placed (b : Fin 8) (i : Fin 4) (y : S1x64x27648.Idx) : S8x64x110592.Idx := fun a => match a with
  | ⟨0, _⟩ => ⟨b.val, b.isLt⟩
  | ⟨1, _⟩ => ⟨(y 1).val, (y 1).isLt⟩
  | ⟨2, _⟩ => ⟨i.val * 27648 + (y 2).val, by have h : (y 2).val < 27648 := (y 2).isLt; have := i.isLt; show _ < 110592; omega⟩

/-- The block of `x` fetched at point `4 b + i` holds batch `b`, block `i`. -/
theorem xAt_apply (c : Dev nD) (b : Fin 8) (i : Fin 4) (y : S1x64x27648.Idx) :
    xAt m c (4 * b.val + i.val) y = (V m c main_v0 : Vec F S8x64x110592 .f32) (placed b i y) := by
  have hb := b.isLt; have hi := i.isLt
  have hN : 4 * b.val + i.val < cfg0.N := by rw [show cfg0.N = 36 from N_0]; omega
  have e := index_1 ⟨4 * b.val + i.val, hN⟩ (by show 4 * b.val + i.val < 32; omega)
  have e1 : (4 * b.val + i.val) / 4 = b.val := by omega
  have e2 : (4 * b.val + i.val) % 4 = i.val := by omega
  simp only [e1, e2] at e
  have hx := xAt_eq m c ⟨4 * b.val + i.val, hN⟩
  rw [show xAt m c (4 * b.val + i.val) = _ from hx]
  have h0 : (y 0).val < 1 := (y 0).isLt
  blk_simp [iblk, e]
  refine congrArg (V m c main_v0) (funext fun a => Fin.ext ?_)
  match a with
  | ⟨0, _⟩ => blk_simp [e]
  | ⟨1, _⟩ => blk_simp [e]; rfl
  | ⟨2, _⟩ => blk_simp [e]; rfl

/-- The scale: the one element of its array. -/
def gOf (c : Dev nD) : Elt F .f32 := elemOf (V m c main_v1 : Vec F S1 .f32)

/-- The scale a point sees. -/
theorem gAt_eq (c : Dev nD) (t : Fin cfg0.N) : gAt m c t = gOf m c := by
  unfold gAt gOf elemOf
  blk_simp [iblk, index_0 t]
  refine congrArg (V m c main_v1) (funext fun a => Fin.ext ?_)
  match a with
  | ⟨0, _⟩ => blk_simp [index_0 t]

/-! ## The output array -/

/-- The element of its block an element of the array is. -/
abbrev within (e : S8x64x110592.Idx) : S1x64x27648.Idx := fun a => match a with
  | ⟨0, _⟩ => ⟨0, Nat.zero_lt_one⟩
  | ⟨1, _⟩ => ⟨(e 1).val, (e 1).isLt⟩
  | ⟨2, _⟩ => ⟨(e 2).val % 27648, Nat.mod_lt _ (by decide)⟩

/-- What the output array holds at the end: at each element the block of its batch. -/
def outArr (c : Dev nD) : Vec F S8x64x110592 .f32 := fun e =>
  outOf (xAt m c) (gOf m c) (4 * (e 0).val + 4 + (e 2).val / 27648) (within e)

/-- The output array at the place of a block's element is the block there. -/
theorem outArr_at (c : Dev nD) (n : ℕ) (h4 : 4 ≤ n) (y : S1x64x27648.Idx) (e : S8x64x110592.Idx)
    (h0 : (e 0).val = n / 4 - 1) (h1 : (e 1).val = (y 1).val) (h2 : (e 2).val = n % 4 * 27648 + (y 2).val) :
    outArr m c e = outOf (xAt m c) (gOf m c) n y := by
  have y0 : (y 0).val < 1 := (y 0).isLt
  have y2 : (y 2).val < 27648 := (y 2).isLt
  have en : 4 * (e 0).val + 4 + (e 2).val / 27648 = n := by rw [h0, h2]; omega
  have ey : within e = y := by
    funext a
    refine Fin.ext ?_
    match a with
    | ⟨0, _⟩ => exact (Nat.lt_one_iff.mp y0).symm
    | ⟨1, _⟩ => exact h1
    | ⟨2, _⟩ =>
      have h : (e 2).val % 27648 = (y 2).val := by rw [h2]; omega
      exact h
  unfold outArr
  rw [ey, en]

/-- What the body may have left at a flushing point is the output block. -/
theorem leaves_2 (c : Dev nD) (t : Fin cfg0.N) (h4 : 4 ≤ t.val) (X : (cfg0.win 2).block.Idx → Elt F (cfg0.win 2).elt) (h : (rd m c).Leaves 2 t X) :
    X = outOf (xAt m c) (gOf m c) t.val := by
  obtain ⟨Y, _, hX⟩ := h
  have hX' : 4 ≤ t.val → X = outOf (xAt m c) (gAt m c t) t.val := hX
  exact (hX' h4).trans (congrArg (fun g => outOf (xAt m c) g t.val) (gAt_eq m c t))

/-- The output array after the last point. -/
theorem arr_2 (c : Dev nD) (G : Buf (Elt F) ((cfg0.win 2).arr.view.loc (c.tc : Thread nD τ))) (h : (rd m c).ArrAt 2 cfg0.N G) :
    G = outArr m c := by
  obtain ⟨X, hX, hA⟩ := h.exists_exact
  let after : (w' : Fin cfg0.W) → Fin cfg0.N → (cfg0.win w').block.Idx → Elt F (cfg0.win w').elt :=
    Function.update (fun _ _ _ => Classical.arbitrary _) 2 X
  have h2 : after 2 = X := Function.update_self _ _ _
  rw [hA after (fun u _ _ => by rw [h2])]
  refine Dat.arrAt_eq_of_covers _ 2 _ (by decide +kernel) fun t hf y => ?_
  have h4 := flush_2 t hf
  have ht := pt_lt t
  have hx := leaves_2 m c t h4 _ (hX t t.isLt hf)
  have e := index_2 t h4
  have h0 : (y 0).val < 1 := (y 0).isLt
  have h2' : (y 2).val < 27648 := (y 2).isLt
  rw [RDat.withAfter_after, h2, hx]
  show outOf (xAt m c) _ t.val y = outArr m c (((cfg0.win 2).blk t).view.emb y)
  refine (outArr_at m c t.val h4 y _ ?_ ?_ ?_).symm
  · blk_simp [e]
  · blk_simp [e]
  · blk_simp [e]

/-- THE RUN of the kernel's program: the result is the reshaped output array, the arguments are unchanged, every
    semaphore ends at zero. -/
theorem run_kernel (ρ : Dev nD → PrngReg) : θ_run defs (onTc (τ := τ) (main (F := F))) (s₀ m ρ) (fun r =>
    (∀ c : Dev nD, r.2.mem ((c.tc : Thread nD τ).loc main_v3)
        = shapeCast S8x48x48x48x64 (outArr m c) shapeCasts_S8x64x110592_S8x48x48x48x64
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ?_, h.2⟩)
    (run_values m ρ (rd m) (obligation m) (fun _ _ => rfl) (fun _ _ => rfl) (fun _ _ => rfl) (phi_in m) (phi_out m))
  obtain ⟨A, hA, hb⟩ := h.1 c
  refine ⟨?_, ?_, ?_⟩
  · rw [hb main_v3 (mem_restRefs_of main_v3 (by decide) (by decide)), tail_v3, arr_2 m c (A 2) (hA 2)]
  · rw [hb main_arg0 (mem_restRefs_of main_arg0 (by decide) (by decide)), tail_arg0]
  · rw [hb main_arg1 (mem_restRefs_of main_arg1 (by decide) (by decide)), tail_arg1]

end Cert.KernelIdeal.Hand
-- ==== Proof.Payloads.lean ====
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.ShloMosaic.TcCoe
open Cert.KernelIdeal.Gen

/-! ## What one block computes, element by element, over the extended reals -/

/-- The output block: the scale times a row of the attention matrix against the block, plus the block. -/
theorem pay1_at (x : Vec Ideal S1x64x27648 .f32) (a : Vec Ideal S64x64 .f32) (g : Elt Ideal .f32) (u : Fin 1) (r : Fin 64) (p : Fin 27648) :
    k0_pay1 (F := Ideal) x a g (ix3 u r p) = g * ∑ k : Fin 64, a (ix2 r k) * x (ix3 0 k p) + x (ix3 0 r p) := by
  pointwise [k0_pay1]

/-- The copy of a block kept for the next batch is the block. -/
theorem pay6_at (x : Vec Ideal S1x64x27648 .f32) (u : Fin 1) (r : Fin 64) (p : Fin 27648) :
    k0_pay6 (F := Ideal) x (ix3 u r p) = x (ix3 u r p) := by
  pointwise [k0_pay6, k0_pay2]

/-- The Gram matrix after a block: what it was plus the block's inner products. -/
theorem pay4_at (x : Vec Ideal S1x64x27648 .f32) (g : Vec Ideal S64x64 .f32) (r s : Fin 64) :
    k0_pay4 (F := Ideal) x g (ix2 r s) = g (ix2 r s) + ∑ p : Fin 27648, x (ix3 0 r p) * x (ix3 0 s p) := by
  pointwise [k0_pay4, k0_pay2]

/-- The Gram matrix starts at zero. -/
theorem pay3_at (r s : Fin 64) : k0_pay3 (F := Ideal) (ix2 r s) = 0 := by
  pointwise [k0_pay3]

/-- The attention matrix: the logistic of the Gram matrix's square. -/
theorem pay5_at (g : Vec Ideal S64x64 .f32) (r s : Fin 64) :
    k0_pay5 (F := Ideal) g (ix2 r s) = Ideal.logistic (∑ k : Fin 64, g (ix2 r k) * g (ix2 k s)) := by
  pointwise [k0_pay5]

end Cert.KernelIdeal.Hand
-- ==== Proof.Blocks.lean ====
module

public import proofs.«01_k».proof.Proof.Array
public import proofs.«01_k».proof.Proof.Payloads

@[expose] public section

noncomputable section

namespace Cert.KernelIdeal.Hand

open Idealize.ShloMosaic Idealize.ShloMosaic.TcCoe
open Cert.KernelIdeal.Gen

/-! ## What the array holds, over the extended reals

`A` is the reshaped input, `X n` the block fetched at point `n`: block `i` of batch `b` at point `4 b + i`. -/

variable (A : Vec Ideal S8x64x110592 .f32) (X : ℕ → Vec Ideal S1x64x27648 .f32)

/-- The Gram matrix of batch `b`. -/
def gramOf (b : Fin 8) (r s : Fin 64) : EReal := ∑ k : Fin 110592, A (ix3 b r k) * A (ix3 b s k)

/-- The attention matrix of batch `b`. -/
def attnOf (b : Fin 8) (r s : Fin 64) : EReal := Ideal.logistic (∑ k : Fin 64, gramOf A b r k * gramOf A b k s)

/-- The layer's value at batch `b`, row `r`, column `q`, with scale `g`. -/
def layerOf (g : EReal) (b : Fin 8) (r : Fin 64) (q : Fin 110592) : EReal :=
  g * ∑ k : Fin 64, attnOf A b r k * A (ix3 b k q) + A (ix3 b r q)

/-- A column of the array, by its block and its place there. -/
abbrev colOf (i : Fin 4) (p : Fin 27648) : Fin 110592 :=
  ⟨i.val * 27648 + p.val, by have := i.isLt; have := p.isLt; omega⟩

/-- The place of a block's element, by coordinates. -/
theorem placed_ix3 (b : Fin 8) (i : Fin 4) (u : Fin 1) (r : Fin 64) (p : Fin 27648) :
    placed b i (ix3 u r p) = ix3 b r (colOf i p) := by
  funext a
  match a with
  | ⟨0, _⟩ => rfl
  | ⟨1, _⟩ => rfl
  | ⟨2, _⟩ => rfl

variable {A X} (hX : ∀ (b : Fin 8) (i : Fin 4) (y : S1x64x27648.Idx), X (4 * b.val + i.val) y = A (placed b i y))
include hX

/-- The block fetched at point `4 b + i`, by coordinates. -/
theorem block_at (b : Fin 8) (i : Fin 4) (n : ℕ) (hn : n = 4 * b.val + i.val) (u : Fin 1) (r : Fin 64) (p : Fin 27648) :
    X n (ix3 u r p) = A (ix3 b r (colOf i p)) := by
  rw [hn, hX, placed_ix3]

/-- One block's inner products. -/
theorem pay4_block (b : Fin 8) (i : Fin 4) (n : ℕ) (hn : n = 4 * b.val + i.val) (g : Vec Ideal S64x64 .f32) (r s : Fin 64) :
    k0_pay4 (F := Ideal) (X n) g (ix2 r s)
      = g (ix2 r s) + ∑ p : Fin 27648, A (ix3 b r (colOf i p)) * A (ix3 b s (colOf i p)) := by
  rw [pay4_at]
  exact congrArg _ (Finset.sum_congr rfl fun p _ => by rw [block_at hX b i n hn, block_at hX b i n hn])

/-- After a batch's four blocks the running matrix is the batch's Gram matrix. -/
theorem gram_batch (b : Fin 8) (r s : Fin 64) : gramAfter X (4 * b.val + 3) (ix2 r s) = gramOf A b r s := by
  have e3 : 4 * b.val + 3 - 1 = 4 * b.val + 2 := by omega
  have e2 : 4 * b.val + 2 - 1 = 4 * b.val + 1 := by omega
  have e1 : 4 * b.val + 1 - 1 = 4 * b.val := by omega
  rw [gramAfter_next X _ (by omega), pay4_block hX b 3 (4 * b.val + 3) rfl, e3,
    gramAfter_next X _ (by omega), pay4_block hX b 2 (4 * b.val + 2) rfl, e2,
    gramAfter_next X _ (by omega), pay4_block hX b 1 (4 * b.val + 1) rfl, e1,
    gramAfter_first X _ (by omega), pay4_block hX b 0 (4 * b.val) rfl, pay3_at, zero_add]
  unfold gramOf
  rw [Fin.sum_univ_tiles (N := 110592) 4 27648 (by norm_num), Fin.sum_univ_four]

/-- The attention matrix the kernel keeps for batch `b`. -/
theorem aff_batch (b : Fin 8) (r s : Fin 64) : affOf X b.val (ix2 r s) = attnOf A b r s := by
  unfold affOf attnOf
  rw [pay5_at]
  exact congrArg _ (Finset.sum_congr rfl fun k _ => by rw [gram_batch hX, gram_batch hX])

/-- The output block of point `4 b + 4 + i`. -/
theorem out_block (g : Elt Ideal .f32) (b : Fin 8) (i : Fin 4) (u : Fin 1) (r : Fin 64) (p : Fin 27648) :
    outOf X g (4 * b.val + 4 + i.val) (ix3 u r p) = layerOf A g b r (colOf i p) := by
  have hi := i.isLt
  have e1 : 4 * b.val + 4 + i.val - 4 = 4 * b.val + i.val := by omega
  have e2 : (4 * b.val + 4 + i.val) / 4 - 1 = b.val := by omega
  unfold outOf layerOf
  rw [e1, e2, pay1_at, pay6_at, block_at hX b i _ rfl]
  refine congrArg (fun t => g * t + _) (Finset.sum_congr rfl fun k _ => ?_)
  rw [aff_batch hX, pay6_at, block_at hX b i _ rfl]

omit hX
variable (m : (ℓ : Loc nD τ sig) → Buf (Elt Ideal) ℓ)

/-- THE OUTPUT ARRAY is the layer's value of the reshaped input. -/
theorem outArr_layer (c : Dev nD) (e : S8x64x110592.Idx) :
    outArr m c e = layerOf (V m c main_v0 : Vec Ideal S8x64x110592 .f32) (gOf m c) (e 0) (e 1) (e 2) := by
  have h2 : (e 2).val < 110592 := (e 2).isLt
  have hq : (e 2).val / 27648 < 4 := by omega
  have hp : (e 2).val % 27648 < 27648 := Nat.mod_lt _ (by decide)
  have hw : within e = ix3 (0 : Fin 1) (e 1) (⟨(e 2).val % 27648, hp⟩ : Fin 27648) := by
    funext a
    match a with
    | ⟨0, _⟩ => rfl
    | ⟨1, _⟩ => rfl
    | ⟨2, _⟩ => rfl
  have hc : colOf ⟨(e 2).val / 27648, hq⟩ ⟨(e 2).val % 27648, hp⟩ = e 2 := by
    refine Fin.ext ?_
    have h : (e 2).val / 27648 * 27648 + (e 2).val % 27648 = (e 2).val := by omega
    exact h
  unfold outArr
  rw [hw]
  refine (out_block (A := (V m c main_v0 : Vec Ideal S8x64x110592 .f32)) (xAt_apply m c) (gOf m c) (e 0)
    ⟨(e 2).val / 27648, hq⟩ 0 (e 1) ⟨(e 2).val % 27648, hp⟩).trans ?_
  rw [hc]

end Cert.KernelIdeal.Hand
-- ==== Proof.Reference.lean ====
module

public import proofs.«01_k».proof.Proof.Blocks
public import proofs.«01_k».proof.Proof.Gen.ReferenceIdeal.Read

@[expose] public section

noncomputable section

namespace Cert.ReferenceIdeal.Hand

open Idealize.ShloMosaic Idealize.ShloMosaic.TcCoe
open Cert.ReferenceIdeal.Read Cert.ReferenceIdeal.Gen
open Cert.KernelIdeal.Hand (gramOf attnOf layerOf)

/-! ## What the reference computes, element by element, over the extended reals -/

variable (x : Vec Ideal S8x48x48x48x64 .f32) (γ : Vec Ideal S_ .f32)

/-- The reference's first product is the Gram matrix. -/
theorem v1_at (b : Fin 8) (r s : Fin 64) :
    val_main_v1 (F := Ideal) x (ix3 b r s) = gramOf (val_main_v0 (F := Ideal) x) b r s := by
  rw [val_main_v1_apply]
  unfold gramOf
  refine Finset.sum_congr rfl fun k _ => ?_
  have el : lidx_main_v1 (ix3 b r s) k = ix3 b r k := by
    funext a
    match a with
    | ⟨0, _⟩ => rfl
    | ⟨1, _⟩ => rfl
    | ⟨2, _⟩ => rfl
  have er : ridx_main_v1 (ix3 b r s) k = ix3 b s k := by
    funext a
    match a with
    | ⟨0, _⟩ => rfl
    | ⟨1, _⟩ => rfl
    | ⟨2, _⟩ => rfl
  rw [el, er]

/-- The reference's second product is the Gram matrix's square. -/
theorem v2_at (b : Fin 8) (r s : Fin 64) :
    val_main_v2 (F := Ideal) x (ix3 b r s)
      = ∑ k : Fin 64, gramOf (val_main_v0 (F := Ideal) x) b r k * gramOf (val_main_v0 (F := Ideal) x) b k s := by
  rw [val_main_v2_apply]
  refine Finset.sum_congr rfl fun k _ => ?_
  have el : lidx_main_v2 (ix3 b r s) k = ix3 b r k := by
    funext a
    match a with
    | ⟨0, _⟩ => rfl
    | ⟨1, _⟩ => rfl
    | ⟨2, _⟩ => rfl
  have er : ridx_main_v2 (ix3 b r s) k = ix3 b k s := by
    funext a
    match a with
    | ⟨0, _⟩ => rfl
    | ⟨1, _⟩ => rfl
    | ⟨2, _⟩ => rfl
  rw [el, er, v1_at, v1_at]

/-- The constant of the reference's logistic is one. -/
theorem one_at : (FloatOps.ofBits .f32 0x3F800000#32 : Ideal .f32) = (1 : EReal) := by
  exact Ideal.ofBits_one_f32

/-- The reference's logistic, spelled as a quotient, is the attention matrix. -/
theorem v8_at (b : Fin 8) (r s : Fin 64) :
    val_main_v8 (F := Ideal) x (ix3 b r s) = attnOf (val_main_v0 (F := Ideal) x) b r s := by
  rw [val_main_v8_apply, val_main_v7_apply, val_main_cst_0_apply, val_main_v6_apply, val_main_v5_apply, val_main_cst_apply,
    val_main_v4_apply, val_main_v3_apply, v2_at, one_at]
  unfold attnOf
  generalize (∑ k : Fin 64, gramOf (val_main_v0 (F := Ideal) x) b r k * gramOf (val_main_v0 (F := Ideal) x) b k s) = t
  rfl

/-- The reference's last product. -/
theorem v9_at (b : Fin 8) (r : Fin 64) (q : Fin 110592) :
    val_main_v9 (F := Ideal) x (ix3 b r q)
      = ∑ k : Fin 64, attnOf (val_main_v0 (F := Ideal) x) b r k * val_main_v0 (F := Ideal) x (ix3 b k q) := by
  rw [val_main_v9_apply]
  refine Finset.sum_congr rfl fun k _ => ?_
  have el : lidx_main_v9 (ix3 b r q) k = ix3 b r k := by
    funext a
    match a with
    | ⟨0, _⟩ => rfl
    | ⟨1, _⟩ => rfl
    | ⟨2, _⟩ => rfl
  have er : ridx_main_v9 (ix3 b r q) k = ix3 b k q := by
    funext a
    match a with
    | ⟨0, _⟩ => rfl
    | ⟨1, _⟩ => rfl
    | ⟨2, _⟩ => rfl
  rw [el, er, v8_at]

/-- Every index of the reshaped input is its three coordinates. -/
theorem idx_coords (e : S8x64x110592.Idx) : ∃ (b : Fin 8) (r : Fin 64) (q : Fin 110592), e = ix3 b r q :=
  ⟨e 0, e 1, e 2, funext fun a => match a with
    | ⟨0, _⟩ => rfl
    | ⟨1, _⟩ => rfl
    | ⟨2, _⟩ => rfl⟩

/-- THE REFERENCE is the layer's value of the reshaped input, reshaped back. -/
theorem v13_layer :
    val_main_v13 (F := Ideal) x γ
      = shapeCast S8x48x48x48x64 (fun e : S8x64x110592.Idx =>
          layerOf (val_main_v0 (F := Ideal) x) (γ (fun a => a.elim0)) (e 0) (e 1) (e 2)) shapeCasts_S8x64x110592_S8x48x48x48x64 := by
  funext i
  have hx : x i = shapeCast S8x48x48x48x64 (val_main_v0 (F := Ideal) x) shapeCasts_S8x64x110592_S8x48x48x48x64 i := by
    unfold val_main_v0
    rw [shapeCast_shapeCast]
  rw [val_main_v13_apply, val_main_v12_apply, val_main_v11_apply, hx]
  unfold val_main_v10 shapeCast
  generalize Shape.reshapeEquiv _ i = e
  obtain ⟨b, r, q, rfl⟩ := idx_coords e
  rw [v9_at]
  rfl

end Cert.ReferenceIdeal.Hand
-- ==== Proof.Equation.lean ====
module

public import proofs.«01_k».proof.Proof.Reference

@[expose] public section

noncomputable section

namespace Cert.Hand

open Idealize.ShloMosaic Idealize.ShloMosaic.TcCoe
open Cert.KernelIdeal Cert.KernelIdeal.Gen Cert.KernelIdeal.Hand

variable (m : (ℓ : Loc nD τ sig) → Buf (Elt Ideal) ℓ)

/-- The scale the kernel reads is the second argument's one element. -/
theorem scale_eq (c : Dev nD) (z : S_.Idx) :
    gOf m c = (m ((c.tc : Thread nD τ).loc main_arg1) : Vec Ideal S_ .f32) z := by
  unfold gOf elemOf
  rw [V_v1]
  exact congrArg (m ((c.tc : Thread nD τ).loc main_arg1) : Vec Ideal S_ .f32) (funext fun a => a.elim0)

/-- THE EQUATION: what the kernel's program returns is what the reference computes of the same arguments. -/
theorem kernel_eq_reference (c : Dev nD) :
    shapeCast S8x48x48x48x64 (outArr m c) shapeCasts_S8x64x110592_S8x48x48x48x64
      = Cert.ReferenceIdeal.Read.val_main_v13 (F := Ideal) (m ((c.tc : Thread nD τ).loc main_arg0)) (m ((c.tc : Thread nD τ).loc main_arg1)) := by
  refine Eq.trans ?_ (Cert.ReferenceIdeal.Hand.v13_layer _ _).symm
  refine congrArg (fun f : Vec Ideal S8x64x110592 .f32 => shapeCast S8x48x48x48x64 f shapeCasts_S8x64x110592_S8x48x48x48x64)
    (funext fun e => ?_)
  rw [outArr_layer, V_v0, scale_eq]
  rfl

end Cert.Hand
-- ==== Proof.Bitwise.lean ====
module

public import proofs.«01_k».proof.Proof.Array
public import proofs.«01_k».proof.Proof.Gen.Kernel
public import proofs.«01_k».proof.Proof.Gen.KernelIdeal

@[expose] public section

noncomputable section

namespace Cert.Hand

open Idealize.ShloMosaic Idealize.ShloMosaic.TcCoe Idealize.SL.Sem

/-! ## The kernel's program at the bit-exact floats

No rewriting rule is used, so the kernel's program and its idealization are the same text; the run of `Array.lean` holds
for any float values. The two texts are shown equal layer by layer. -/

/-- The two tables of bodies are the same. -/
theorem bodies_same : @Cert.Kernel.defs₀ Bits _ _ = @Cert.KernelIdeal.defs₀ Bits _ _ := by
  unfold Cert.Kernel.defs₀ Cert.KernelIdeal.defs₀
  refine congrArg (Defs.onTc (nD := Cert.KernelIdeal.nD) (τ := Cert.KernelIdeal.τ) (sig := Cert.KernelIdeal.sig)
    (Val := Elt Bits) (Λ := Cert.KernelIdeal.Λ₀)) ?_
  funext l a
  match l, a with
  | 0, (t, s) => rfl

/-- The two tables with the region are the same. -/
theorem defs_same : @Cert.Kernel.defs Bits _ _ = @Cert.KernelIdeal.defs Bits _ _ := by
  unfold Cert.Kernel.defs Cert.KernelIdeal.defs
  exact congrArg (Pipeline.defs (@Cert.KernelIdeal.pcfgs Bits _)) bodies_same

/-- The two host programs are the same. -/
theorem main_same : @Cert.Kernel.main Bits _ = @Cert.KernelIdeal.main Bits _ := by
  unfold Cert.Kernel.main Cert.KernelIdeal.main
  rfl

/-- The kernel's program, at the bit-exact floats, runs, keeps its arguments and leaves every semaphore at zero. -/
theorem kernel_frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact (θ_run Cert.KernelIdeal.defs _ _).mono (fun _ h => ⟨fun c => (h.1 c).2, h.2⟩)
    (Cert.KernelIdeal.Hand.run_kernel (F := Bits) m ρ)

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.Bitwise
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's program runs, keeps its arguments and leaves every semaphore at zero. -/
theorem frame_kernel : Cert.quiescent_Kernel := fun m ρ _ => Cert.Hand.kernel_frame m ρ

/-- So does its idealization. -/
theorem frame_kernelIdeal : Cert.quiescent_KernelIdeal := fun m ρ _ =>
  (θ_run Cert.KernelIdeal.defs _ _).mono (fun _ h => ⟨fun c => (h.1 c).2, h.2⟩) (Cert.KernelIdeal.Hand.run_kernel m ρ)

/-- The reference runs and keeps its arguments; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Over the extended reals the kernel's program and the reference, run on the same arguments, return the same array: the
    reference's value at every element. -/
theorem value : Cert.algebraic_KernelIdeal_ReferenceIdeal := by
  intro m g m' g' _ hm
  refine ⟨fun c => Cert.ReferenceIdeal.Read.val_main_v13 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Hand.run_kernel m g)
    obtain ⟨hv, h0, h1⟩ := h.1 c
    exact ⟨hv.trans (Cert.Hand.kernel_eq_reference m c), h0, h1⟩
  · refine (θ_run Cert.ReferenceIdeal.defs _ _).mono (fun r h c => ?_) (Cert.ReferenceIdeal.Value.run m' g')
    obtain ⟨hv, h0, h1⟩ := h c
    refine ⟨(hv.trans (Cert.ReferenceIdeal.Read.val_main_v13_eq _ _)).trans ?_, h0, h1⟩
    rw [(hm c).1, (hm c).2]

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
